-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_cst_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_cst_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_cst_7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1024x1024 : Shape := ⟨2, ![1024, 1024]⟩
abbrev S2 : Shape := ⟨1, ![2]⟩
abbrev S1x1024x1024 : Shape := ⟨3, ![1, 1024, 1024]⟩
abbrev S1x1x1 : Shape := ⟨3, ![1, 1, 1]⟩
abbrev S1024x1023 : Shape := ⟨2, ![1024, 1023]⟩
abbrev S1023x1 : Shape := ⟨2, ![1023, 1]⟩
abbrev S1023 : Shape := ⟨1, ![1023]⟩
abbrev S1x1024x1023 : Shape := ⟨3, ![1, 1024, 1023]⟩
abbrev S1x1023 : Shape := ⟨2, ![1, 1023]⟩

abbrev nBuf : Space → Nat
  | .hbm => 48
  | .vmem => 3
  | .smem => 1
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .i32⟩
  | .hbm, ⟨3, _⟩ => ⟨S1048576, .i32⟩
  | .hbm, ⟨4, _⟩ => ⟨S1048576, .i32⟩
  | .hbm, ⟨5, _⟩ => ⟨S1048576, .i32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1, .i32⟩
  | .hbm, ⟨15, _⟩ => ⟨S_, .i32⟩
  | .hbm, ⟨16, _⟩ => ⟨S1048576x1, .i32⟩
  | .hbm, ⟨17, _⟩ => ⟨S1048576x1, .i1⟩
  | .hbm, ⟨18, _⟩ => ⟨S1x1, .i32⟩
  | .hbm, ⟨19, _⟩ => ⟨S1048576x1, .i32⟩
  | .hbm, ⟨20, _⟩ => ⟨S1048576x1, .i1⟩
  | .hbm, ⟨21, _⟩ => ⟨S1048576x1, .i1⟩
  | .hbm, ⟨22, _⟩ => ⟨S_, .i1⟩
  | .hbm, ⟨23, _⟩ => ⟨S1048576, .i1⟩
  | .hbm, ⟨24, _⟩ => ⟨S1048576, .f32⟩
  | .hbm, ⟨25, _⟩ => ⟨S_, .f32⟩
  | .hbm, ⟨26, _⟩ => ⟨S1048576, .f32⟩
  | .hbm, ⟨27, _⟩ => ⟨S1048576, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S2, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .smem, ⟨0, _⟩ => ⟨S2, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_cst_4 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048575 : Shape := ⟨1, ![1048575]⟩

abbrev nBuf : Space → Nat
  | .hbm => 55
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .i32⟩
  | .hbm, ⟨3, _⟩ => ⟨S1048576, .f32⟩
  | .hbm, ⟨4, _⟩ => ⟨S1048576, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S1048576x1, .i32⟩
  | .hbm, ⟨20, _⟩ => ⟨S1, .i32⟩
  | .hbm, ⟨21, _⟩ => ⟨S_, .i32⟩
  | .hbm, ⟨22, _⟩ => ⟨S1048576x1, .i32⟩
  | .hbm, ⟨23, _⟩ => ⟨S1048576x1, .i1⟩
  | .hbm, ⟨24, _⟩ => ⟨S1x1, .i32⟩
  | .hbm, ⟨25, _⟩ => ⟨S1048576x1, .i32⟩
  | .hbm, ⟨26, _⟩ => ⟨S1048576x1, .i1⟩
  | .hbm, ⟨27, _⟩ => ⟨S1048576x1, .i1⟩
  | .hbm, ⟨28, _⟩ => ⟨S_, .i1⟩
  | .hbm, ⟨29, _⟩ => ⟨S1048576, .i1⟩
  | .hbm, ⟨30, _⟩ => ⟨S1048576, .f32⟩
  | .hbm, ⟨31, _⟩ => ⟨S_, .f32⟩
  | .hbm, ⟨32, _⟩ => ⟨S1048576, .f32⟩
  | .hbm, ⟨33, _⟩ => ⟨S1048576, .f32⟩
  | .hbm, ⟨34, _⟩ => ⟨S1048575, .f32⟩
  | .hbm, ⟨35, _⟩ => ⟨S1048575, .f32⟩
  | .hbm, ⟨36, _⟩ => ⟨S1048575, .f32⟩
  | .hbm, ⟨37, _⟩ => ⟨S_, .f32⟩
  | .hbm, ⟨38, _⟩ => ⟨S1048575, .f32⟩
  | .hbm, ⟨39, _⟩ => ⟨S1048575, .f32⟩
  | .hbm, ⟨40, _⟩ => ⟨S_, .f32⟩
  | .hbm, ⟨41, _⟩ => ⟨S1048575, .f32⟩
  | .hbm, ⟨42, _⟩ => ⟨S1048575, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_call0_v0 : Ref sig .tc := ⟨.hbm, 9, rfl⟩
abbrev main_call0_v1_0 : Ref sig .tc := ⟨.hbm, 10, rfl⟩
abbrev main_v4 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_call2_cst : Ref sig .tc := ⟨.hbm, 40, rfl⟩
abbrev main_call2_v0 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_cst_6 : Ref sig .tc := ⟨.hbm, 51, rfl⟩
abbrev main_v16 : Ref sig .tc := ⟨.hbm, 52, rfl⟩
abbrev main_v17 : Ref sig .tc := ⟨.hbm, 53, rfl⟩
abbrev main_cst_7 : Ref sig .tc := ⟨.hbm, 54, rfl⟩

abbrev nD : Nat := 1
abbrev τ : Topo := Topo.v7x

variable {F : FTy → Type} [FloatOps F]
-- ==== Proof.Loss.Body.lean ====
/- What the kernel's body computes from its three staged squares, over the extended reals: the sum of squared
   differences, and the sum of the clipped increases inside the rows and across their ends. -/
module

public import proofs.«01_k».proof.Proof.Gen.KernelIdeal.Skeleton
public import Idealize.ShloMosaic.Lib.Pointwise

@[expose] public section

set_option maxRecDepth 16384

noncomputable section

namespace Cert.Loss

open Idealize.ShloMosaic Idealize.SL.Sem

/-- The tolerance below which an increase is not penalised, as the literal that both programs carry. -/
abbrev tol : EReal := Ideal.ofBits .f32 0x3BA3D70A#32

/-- The penalty of a step from `a` to `b`: the increase above the tolerance, or zero. -/
abbrev step (b a : EReal) : EReal := max (b - a - tol) 0

/-- The body's first number: the sum over the square of the squared differences. -/
theorem pay1_eq (x y : Vec Ideal Cert.KernelIdeal.S1024x1024 .f32) :
    Cert.KernelIdeal.Gen.k0_pay1 (F := Ideal) x y
      = ∑ r : Fin 1024, ∑ c : Fin 1024, (x (ix2 r c) - y (ix2 r c)) * (x (ix2 r c) - y (ix2 r c)) := by
  pointwise [Cert.KernelIdeal.Gen.k0_pay1]

/-- The body's second number: the penalties of the steps inside the rows, and of the steps from the end of each row
    to the start of the next. -/
theorem pay2_eq (s : Vec Ideal Cert.KernelIdeal.S1024x1024 .f32) :
    Cert.KernelIdeal.Gen.k0_pay2 (F := Ideal) s
      = ∑ r : Fin 1024, ∑ c : Fin 1023, step (s (ix2 r ⟨1 + c.val, by omega⟩)) (s (ix2 r ⟨c.val, by omega⟩))
        + ∑ r : Fin 1023, step (s (ix2 ⟨1 + r.val, by omega⟩ 0)) (s (ix2 ⟨r.val, by omega⟩ 1023)) := by
  pointwise [Cert.KernelIdeal.Gen.k0_pay2]

end Cert.Loss
-- ==== Proof.Loss.Region.lean ====
/- What the kernel's launch leaves in its two-word result: the two sums of the body over the three squares it is given. -/
module

public import proofs.«01_k».proof.Proof.Gen.KernelIdeal.Frame
public import Idealize.ShloMosaic.Lib.Pipeline.ValueKit
public import Idealize.ShloMosaic.Lib.Pipeline.ReadBack
public import proofs.«01_k».proof.Proof.Loss.Body

@[expose] public section

set_option maxRecDepth 16384

noncomputable section

namespace Cert.Loss

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The launch's result: word 0 the first sum, word 1 the second. -/
def sums : Buf (Elt Ideal) ((c : Thread nD τ).loc main_v5) := fun i =>
  if (i 0).val = 0 then k0_pay1 (V m c main_v3) (V m c main_v4) else k0_pay2 (V m c main_v2)

/-- Input 0's one block is its whole array. -/
theorem block0 (t : Fin cfg0.N) : iblk m c 0 t = V m c main_v3 := by
  unfold iblk
  funext j
  refine congrArg (V m c main_v3) (funext fun a => Fin.ext ?_)
  rw [fin_N0 t]
  revert a
  refine Fin.forall_fin_two.2 ⟨?_, ?_⟩ <;> blk_simp
  · rw [show win0_0.index t0_0 0 = 0 from rfl, Nat.zero_mul, Nat.zero_add]
  · rw [show win0_0.index t0_0 1 = 0 from rfl, Nat.zero_mul, Nat.zero_add]

/-- Input 1's one block is its whole array. -/
theorem block1 (t : Fin cfg0.N) : iblk m c 1 t = V m c main_v4 := by
  unfold iblk
  funext j
  refine congrArg (V m c main_v4) (funext fun a => Fin.ext ?_)
  rw [fin_N0 t]
  revert a
  refine Fin.forall_fin_two.2 ⟨?_, ?_⟩ <;> blk_simp
  · rw [show win0_1.index t0_0 0 = 0 from rfl, Nat.zero_mul, Nat.zero_add]
  · rw [show win0_1.index t0_0 1 = 0 from rfl, Nat.zero_mul, Nat.zero_add]

/-- Input 2's one block is its whole array. -/
theorem block2 (t : Fin cfg0.N) : iblk m c 2 t = V m c main_v2 := by
  unfold iblk
  funext j
  refine congrArg (V m c main_v2) (funext fun a => Fin.ext ?_)
  rw [fin_N0 t]
  revert a
  refine Fin.forall_fin_two.2 ⟨?_, ?_⟩ <;> blk_simp
  · rw [show win0_2.index t0_0 0 = 0 from rfl, Nat.zero_mul, Nat.zero_add]
  · rw [show win0_2.index t0_0 1 = 0 from rfl, Nat.zero_mul, Nat.zero_add]

/-- The result's one block is its whole array: a word of the block is the same word of the array. -/
theorem word (t : Fin cfg0.N) (y : ((cfg0.win 3).xblock (cfg0.grid.coords t)).Idx) :
    ((((View.whole main_v5).slice (win0_3.rect t)).emb y) 0).val = (y 0).val := by
  rw [fin_N0 t]
  blk_simp
  rw [show win0_3.index t0_0 0 = 0 from rfl, Nat.zero_mul, Nat.zero_add]

/-- When the launch is over its result holds the two sums. -/
theorem arr_eq : (dats m 0 c).arrAt 3 (cfgs 0).N = sums m c := by
  refine (dats m 0 c).arrAt_eq_of_covers 3 _ (by decide +kernel) fun t hf y => ?_
  blk_simp
  rw [after0_3]
  unfold outsAt0
  frame_out
  rw [read_unread_whole, read_unread_whole, read_unread_whole, block0, block1, block2]
  unfold sums
  have hw := word t y
  canon_tiles x h
  · rw [if_neg (by omega)]
  · rw [if_pos (by omega)]

end Cert.Loss
-- ==== Proof.Loss.Ordered.lean ====
/- The predictions put in the order of the keys: what both programs compute before they penalise increases. The sort
   and the lookup are the same operations in both, so they are named here once and never opened. -/
module

public import proofs.«01_k».proof.Proof.Gen.KernelIdeal.Skeleton
public import proofs.«01_k».proof.Proof.Gen.ReferenceIdeal.Run
public import Idealize.ShloMosaic.PureOps.Ideal

@[expose] public section

set_option maxRecDepth 16384

noncomputable section

namespace Cert.Loss

open Idealize.ShloMosaic Idealize.ShloMosaic.TcCoe Idealize.SL.Sem
open Cert.KernelIdeal Cert.KernelIdeal.Gen

/-- The places of the keys in ascending order. -/
def order (key : Vec Ideal S1048576 .i32) : Vec Ideal S1048576 .i32 :=
  (Host.sort2 S1048576 0 comparator_i32_i32_d0 key (iotaInDim S1048576 32 0)).2

/-- Those places as a column to look up by, a negative one counted from the end. -/
def column (key : Vec Ideal S1048576 .i32) : Vec Ideal S1048576x1 .i32 :=
  broadcastInDim S1048576x1 ![0] bcast_S1048576_S1048576x1_0
    (select (cmpi .slt (order key) (broadcastInDim S1048576 ![] bcast_S_S1048576 (constantI S_ 32 0#32)))
      (addi (order key) (broadcastInDim S1048576 ![] bcast_S_S1048576 (constantI S_ 32 1048576#32))) (order key))

/-- Whether each place lies inside the array. -/
def inside (key : Vec Ideal S1048576 .i32) : Vec Ideal S1048576 .i1 :=
  Host.reduce IntOp.andi
    (andi (cmpi .sge (column key) (broadcastInDim S1048576x1 ![] bcast_S_S1048576x1 (constantI S_ 32 0#32)))
      (cmpi .sle (column key) (broadcastInDim S1048576x1 ![0, 1] bcast_S1x1_S1048576x1_0_1
        (broadcastInDim S1x1 ![1] bcast_S1_S1x1_1 (constantI S1 32 1048575#32)))))
    (constantI S_ 1 1#1) reducesTo_S1048576x1_S1048576_d1 h_S_

/-- The predictions in the order of the keys. -/
def ordered (p : Vec Ideal S1048576 .f32) (key : Vec Ideal S1048576 .i32) : Vec Ideal S1048576 .f32 :=
  select (inside key) (Host.gather gather_S1048576_S1048576x1_S1048576_n_0_n_n_0_1_1 p (column key))
    (broadcastInDim S1048576 ![] bcast_S_S1048576 (constant (F := Ideal) S_ .f32 0x7FC00000#32))

end Cert.Loss
-- ==== Proof.Loss.Kernel.lean ====
/- The kernel's run, result by result: the host operations before the launch lay the arguments out as squares, those
   after it divide the two sums by their counts and combine them. -/
module

public import proofs.«01_k».proof.Proof.Loss.Region
public import proofs.«01_k».proof.Proof.Loss.Ordered
public import Idealize.ShloMosaic.Lib.StableHlo.RunRead
public import Idealize.ShloMosaic.Lib.Claim

@[expose] public section

set_option maxRecDepth 16384
set_option maxHeartbeats 2000000

noncomputable section

namespace Cert.Loss

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The square of the predictions. -/
theorem entry_pred : V m c main_v3
    = shapeCast S1024x1024 (m ((c.tc : Thread nD τ).loc main_arg0)) shapeCasts_S1048576_S1024x1024 := by
  simp only [V, V0, hostOps0, hostOps0_1, hostOps0_2, List.flatten_cons, List.flatten_nil, List.cons_append, List.nil_append, List.append_nil,
    main_call1_call0, StableHlo.TRef.binary, StableHlo.TRef.nullary, StableHlo.TRef.ternary, StableHlo.TRef.unary, StableHlo.TRef.toBuf, StableHlo.TRef.ofBuf, cast_eq]
  after_results_simp
  rfl

/-- The square of the targets. -/
theorem entry_target : V m c main_v4
    = shapeCast S1024x1024 (m ((c.tc : Thread nD τ).loc main_arg1)) shapeCasts_S1048576_S1024x1024 := by
  simp only [V, V0, hostOps0, hostOps0_1, hostOps0_2, List.flatten_cons, List.flatten_nil, List.cons_append, List.nil_append, List.append_nil,
    main_call1_call0, StableHlo.TRef.binary, StableHlo.TRef.nullary, StableHlo.TRef.ternary, StableHlo.TRef.unary, StableHlo.TRef.toBuf, StableHlo.TRef.ofBuf, cast_eq]
  after_results_simp
  rfl

/-- The square of the predictions in the order of the keys. -/
theorem entry_ordered : V m c main_v2
    = shapeCast S1024x1024 (ordered (m ((c.tc : Thread nD τ).loc main_arg0)) (m ((c.tc : Thread nD τ).loc main_arg2)))
        shapeCasts_S1048576_S1024x1024 := by
  simp only [V, V0, hostOps0, hostOps0_1, hostOps0_2, List.flatten_cons, List.flatten_nil, List.cons_append, List.nil_append, List.append_nil,
    main_call1_call0, StableHlo.TRef.binary, StableHlo.TRef.nullary, StableHlo.TRef.ternary, StableHlo.TRef.unary, StableHlo.TRef.toBuf, StableHlo.TRef.ofBuf, cast_eq]
  after_results_simp
  rfl

/-- The first sum, as the scalar the host reads out of the launch's result. -/
def sqSum : Vec Ideal S_ .f32 := fun _ => k0_pay1 (F := Ideal) (V m c main_v3) (V m c main_v4)

/-- The second sum, likewise. -/
def monoSum : Vec Ideal S_ .f32 := fun _ => k0_pay2 (F := Ideal) (V m c main_v2)

/-- The contents the host operations after the launch start from hold the two sums in the launch's result. -/
theorem exit_sums : Pipeline.withArrays (cfgs 0).spec c (V0 m c) (fun w => (dats m 0 c).arrAt w (cfgs 0).N) (Proc.devRef .tc main_v5)
    = sums m c :=
  (Pipeline.withArrays_arr (cfgs 0).spec winFacts0.arr_inj c (V0 m c) (fun w => (dats m 0 c).arrAt w (cfgs 0).N) 3).trans (arr_eq m c)

/-- Word 0 of a pair, sliced off and read as a scalar. -/
theorem word_zero (x : Vec Ideal S2 .f32) :
    shapeCast S_ (extractStridedSlice S1 ![0] x slices_S2_S1_0) shapeCasts_S1_S_ = fun _ => x (ix1 0) := by
  funext i
  pointwise []

/-- Word 1 likewise. -/
theorem word_one (x : Vec Ideal S2 .f32) :
    shapeCast S_ (extractStridedSlice S1 ![1] x slices_S2_S1_1) shapeCasts_S1_S_ = fun _ => x (ix1 1) := by
  funext i
  pointwise []

/-- The first sum, read out of the launch's result. -/
theorem read_sq : (fun i => shapeCast S_ (extractStridedSlice S1 ![0] (sums m c) slices_S2_S1_0) shapeCasts_S1_S_ i) = sqSum m c :=
  (word_zero (sums m c)).trans (funext fun _ => if_pos rfl)

/-- The second sum, likewise. -/
theorem read_mono : (fun i => shapeCast S_ (extractStridedSlice S1 ![1] (sums m c) slices_S2_S1_1) shapeCasts_S1_S_ i) = monoSum m c :=
  (word_one (sums m c)).trans (funext fun _ => if_neg Nat.one_ne_zero)

/-- The mean squared error. -/
theorem tail_mse : Pipeline.afterTail₀ cfgs (dats m) 0 (V0 m) [hostOps1] c main_v8
    = Host.divf (sqSum m c) (constant (F := Ideal) S_ .f32 0x49800000#32) := by
  unfold Pipeline.afterTail₀
  simp only [hostOps1, List.flatten_cons, List.flatten_nil, List.append_nil]
  after_results_simp
  rw [exit_sums]
  exact congrArg (Host.divf · (constant (F := Ideal) S_ .f32 0x49800000#32)) (read_sq m c)

/-- The mean penalty. -/
theorem tail_mono : Pipeline.afterTail₀ cfgs (dats m) 0 (V0 m) [hostOps1] c main_v11
    = Host.divf (monoSum m c) (constant (F := Ideal) S_ .f32 0x497FFFF0#32) := by
  unfold Pipeline.afterTail₀
  simp only [hostOps1, List.flatten_cons, List.flatten_nil, List.append_nil]
  after_results_simp
  rw [exit_sums]
  exact congrArg (Host.divf · (constant (F := Ideal) S_ .f32 0x497FFFF0#32)) (read_mono m c)

/-- The weighted total of a mean squared error, a mean penalty and a remainder of zero. -/
def total (mse mono : Vec Ideal S_ .f32) : Vec Ideal S_ .f32 :=
  addf (F := Ideal) (addf mse (mulf (constant S_ .f32 0x3DCCCCCD#32) mono))
    (mulf (constant S_ .f32 0x3DCCCCCD#32) (constant S_ .f32 0x00000000#32))

/-- The total loss, from the two means. -/
theorem tail_total : Pipeline.afterTail₀ cfgs (dats m) 0 (V0 m) [hostOps1] c main_v15
    = total (Host.divf (sqSum m c) (constant (F := Ideal) S_ .f32 0x49800000#32))
        (Host.divf (monoSum m c) (constant (F := Ideal) S_ .f32 0x497FFFF0#32)) := by
  unfold Pipeline.afterTail₀
  simp only [hostOps1, List.flatten_cons, List.flatten_nil, List.append_nil]
  after_results_simp
  rw [exit_sums]
  exact congrArg₂ (fun a b => total (Host.divf a (constant (F := Ideal) S_ .f32 0x49800000#32))
    (Host.divf b (constant (F := Ideal) S_ .f32 0x497FFFF0#32))) (read_sq m c) (read_mono m c)

/-- The constant result. -/
theorem tail_zero : Pipeline.afterTail₀ cfgs (dats m) 0 (V0 m) [hostOps1] c main_cst_4
    = constant (F := Ideal) S_ .f32 0x00000000#32 := by
  unfold Pipeline.afterTail₀
  simp only [hostOps1, List.flatten_cons, List.flatten_nil, List.append_nil]
  after_results_simp

/-- On every device, every execution of the kernel ends with the four results at these values and the arguments as they
    were. -/
theorem run_kernel : θ_run defs (onTc (τ := τ) (main (F := Ideal))) ⟨m, fun _ => 0, ρ⟩ fun r => ∀ c : Dev nD,
      r.2.mem ((c.tc : Thread nD τ).loc main_v15)
        = total (Host.divf (sqSum m c) (constant (F := Ideal) S_ .f32 0x49800000#32))
            (Host.divf (monoSum m c) (constant (F := Ideal) S_ .f32 0x497FFFF0#32))
      ∧ r.2.mem ((c.tc : Thread nD τ).loc main_v8) = Host.divf (sqSum m c) (constant (F := Ideal) S_ .f32 0x49800000#32)
      ∧ r.2.mem ((c.tc : Thread nD τ).loc main_v11) = Host.divf (monoSum m c) (constant (F := Ideal) S_ .f32 0x497FFFF0#32)
      ∧ r.2.mem ((c.tc : Thread nD τ).loc main_cst_4) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun r h c => ⟨((h.1 c).2 main_v15 (Pipeline.mem_restRefs_of main_v15 (by decide) (by decide))).trans (tail_total m c),
      ((h.1 c).2 main_v8 (Pipeline.mem_restRefs_of main_v8 (by decide) (by decide))).trans (tail_mse m c),
      ((h.1 c).2 main_v11 (Pipeline.mem_restRefs_of main_v11 (by decide) (by decide))).trans (tail_mono m c),
      ((h.1 c).2 main_cst_4 (Pipeline.mem_restRefs_of main_cst_4 (by decide) (by decide))).trans (tail_zero m c),
      h.2 c⟩)
    (θ_run_and (run_main m ρ) (unchanged m ρ))

end Cert.Loss
-- ==== Proof.Loss.Sums.lean ====
/- Sums over a long vector cut into rows, in any commutative additive monoid: no finiteness, no order. -/
module

public import Mathlib.Algebra.BigOperators.Fin
public import Mathlib.Algebra.BigOperators.Intervals
public import Mathlib.Tactic.Ring
public import Mathlib.Tactic.Abel

@[expose] public section

namespace Cert.Loss

open Finset

variable {M : Type*} [AddCommMonoid M]

/-- Summing `n` rows of `C` entries each, row after row, is summing the first `C * n` entries. -/
theorem sum_rows (C : ℕ) (g : ℕ → M) (n : ℕ) :
    ∑ r ∈ range n, ∑ c ∈ range C, g (C * r + c) = ∑ k ∈ range (C * n), g k := by
  induction n with
  | zero => simp
  | succ n ih => rw [sum_range_succ, ih, Nat.mul_succ, sum_range_add]

/-- Of `n + 1` rows of `C + 1` entries, take the first `C` entries of every row and, apart, the last entry of every
    row but the last: that is every entry except the very last. -/
theorem sum_rows_and_seams (C : ℕ) (g : ℕ → M) (n : ℕ) :
    ∑ r ∈ range (n + 1), ∑ c ∈ range C, g ((C + 1) * r + c) + ∑ r ∈ range n, g ((C + 1) * r + C)
      = ∑ k ∈ range ((C + 1) * n + C), g k := by
  induction n with
  | zero => simp
  | succ n ih =>
    rw [sum_range_succ, sum_range_succ (fun r => g ((C + 1) * r + C)), add_add_add_comm, ih,
      show (C + 1) * (n + 1) + C = ((C + 1) * n + C) + 1 + C by ring,
      sum_range_add g ((C + 1) * n + C + 1) C, sum_range_succ g ((C + 1) * n + C), show (C + 1) * n + C + 1 = (C + 1) * (n + 1) by ring]
    abel

/-- `sum_rows` with the rows, the columns and the entries indexed by `Fin`. -/
theorem sum_fin_rows {R C N : ℕ} (hN : C * R = N) (f : Fin N → M)
    (hk : ∀ (r : Fin R) (c : Fin C), C * r.val + c.val < N) :
    ∑ r : Fin R, ∑ c : Fin C, f ⟨C * r.val + c.val, hk r c⟩ = ∑ k : Fin N, f k := by
  let g : ℕ → M := fun k => if h : k < N then f ⟨k, h⟩ else 0
  have hf : ∀ k : Fin N, f k = g k.val := fun k => by simp only [g, k.isLt, dif_pos]
  simp only [hf]
  rw [Fin.sum_univ_eq_sum_range g N, ← hN, ← sum_rows,
    ← Fin.sum_univ_eq_sum_range (fun r => ∑ c ∈ range C, g (C * r + c))]
  exact sum_congr rfl fun r _ => Fin.sum_univ_eq_sum_range (fun c => g (C * r.val + c)) C

/-- `sum_rows_and_seams` with the rows, the columns and the entries indexed by `Fin`. -/
theorem sum_fin_rows_and_seams {R C N : ℕ} (hN : (C + 1) * R + C = N) (f : Fin N → M)
    (hk : ∀ (r : Fin (R + 1)) (c : Fin C), (C + 1) * r.val + c.val < N)
    (hs : ∀ r : Fin R, (C + 1) * r.val + C < N) :
    ∑ r : Fin (R + 1), ∑ c : Fin C, f ⟨(C + 1) * r.val + c.val, hk r c⟩
        + ∑ r : Fin R, f ⟨(C + 1) * r.val + C, hs r⟩
      = ∑ k : Fin N, f k := by
  let g : ℕ → M := fun k => if h : k < N then f ⟨k, h⟩ else 0
  have hf : ∀ k : Fin N, f k = g k.val := fun k => by simp only [g, k.isLt, dif_pos]
  simp only [hf]
  rw [Fin.sum_univ_eq_sum_range g N, ← hN, ← sum_rows_and_seams,
    ← Fin.sum_univ_eq_sum_range (fun r => ∑ c ∈ range C, g ((C + 1) * r + c)),
    ← Fin.sum_univ_eq_sum_range (fun r => g ((C + 1) * r + C))]
  congr 1
  exact sum_congr rfl fun r _ => (Fin.sum_univ_eq_sum_range (fun c => g ((C + 1) * r.val + c)) C)

end Cert.Loss
-- ==== Proof.Loss.Reference.lean ====
/- The reference's two sums over the flat arrays, and the same sums taken over the squares. -/
module

public import proofs.«01_k».proof.Proof.Loss.Ordered
public import proofs.«01_k».proof.Proof.Loss.Body
public import proofs.«01_k».proof.Proof.Loss.Sums

@[expose] public section

set_option maxRecDepth 16384

noncomputable section

namespace Cert.Loss

open Idealize.ShloMosaic Idealize.ShloMosaic.TcCoe Idealize.SL.Sem
open Cert.ReferenceIdeal Cert.ReferenceIdeal.Gen

/-- The reference's sum of squared differences. -/
def refSq (x y : Vec Ideal S1048576 .f32) : Vec Ideal S_ .f32 :=
  Host.reduceAdd (mulf (subf x y) (subf x y)) (constant (F := Ideal) S_ .f32 0x00000000#32) reducesTo_S1048576_S_d0 h_S_

/-- The reference's sum of penalties over the neighbouring pairs of an array. -/
def refMono (s : Vec Ideal S1048576 .f32) : Vec Ideal S_ .f32 :=
  Host.reduceAdd (maximumf (subf (subf (extractStridedSlice S1048575 ![1] s slices_S1048576_S1048575_1)
        (extractStridedSlice S1048575 ![0] s slices_S1048576_S1048575_0))
      (broadcastInDim S1048575 ![] bcast_S_S1048575 (constant (F := Ideal) S_ .f32 0x3BA3D70A#32)))
    (broadcastInDim S1048575 ![] bcast_S_S1048575 (constant (F := Ideal) S_ .f32 0x00000000#32)))
    (constant (F := Ideal) S_ .f32 0x00000000#32) reducesTo_S1048575_S_d0 h_S_

/-- It is the sum over the array. -/
theorem refSq_eq (x y : Vec Ideal S1048576 .f32) (i : S_.Idx) :
    refSq x y i = ∑ k : Fin 1048576, (x (ix1 k) - y (ix1 k)) * (x (ix1 k) - y (ix1 k)) := by
  pointwise [refSq]

/-- It is the sum over the pairs of a place and the next. -/
theorem refMono_eq (s : Vec Ideal S1048576 .f32) (i : S_.Idx) :
    refMono s i = ∑ k : Fin 1048575, step (s (ix1 ⟨1 + k.val, by omega⟩)) (s (ix1 ⟨k.val, by omega⟩)) := by
  pointwise [refMono]

/-- Position (r, c) of a square laid out from a flat array. -/
theorem square_at (x : Vec Ideal S1048576 .f32) (h : S1048576.ShapeCasts Cert.KernelIdeal.S1024x1024) (r c : Fin 1024) :
    shapeCast Cert.KernelIdeal.S1024x1024 x h (ix2 r c) = x (ix1 ⟨1024 * r.val + c.val, by omega⟩) := by
  pointwise []
  exact congrArg (fun k => x (ix1 k)) (Fin.ext (congrArg (· + c.val) (Nat.mul_comm r.val 1024)))

/-- The squared differences summed over the squares are those summed over the flat arrays. -/
theorem sq_agrees (x y : Vec Ideal S1048576 .f32) (h : S1048576.ShapeCasts Cert.KernelIdeal.S1024x1024) (i : S_.Idx) :
    Cert.KernelIdeal.Gen.k0_pay1 (F := Ideal) (shapeCast Cert.KernelIdeal.S1024x1024 x h) (shapeCast Cert.KernelIdeal.S1024x1024 y h)
      = refSq x y i := by
  rw [pay1_eq, refSq_eq]
  simp only [square_at x h, square_at y h]
  exact sum_fin_rows (R := 1024) (C := 1024) (N := 1048576) (by norm_num)
    (fun k => (x (ix1 k) - y (ix1 k)) * (x (ix1 k) - y (ix1 k))) (fun r c => by omega)

/-- The penalties inside the rows and across their ends are those of all the neighbouring pairs of the flat array. -/
theorem mono_agrees (s : Vec Ideal S1048576 .f32) (h : S1048576.ShapeCasts Cert.KernelIdeal.S1024x1024) (i : S_.Idx) :
    Cert.KernelIdeal.Gen.k0_pay2 (F := Ideal) (shapeCast Cert.KernelIdeal.S1024x1024 s h) = refMono s i := by
  rw [pay2_eq, refMono_eq]
  simp only [square_at s h]
  rw [← sum_fin_rows_and_seams (R := 1023) (C := 1023) (N := 1048575) (by norm_num)
    (fun k => step (s (ix1 ⟨1 + k.val, by omega⟩)) (s (ix1 ⟨k.val, by omega⟩)))
    (fun r c => by omega) (fun r => by omega)]
  refine congrArg₂ (· + ·) (Finset.sum_congr rfl fun r _ => Finset.sum_congr rfl fun c _ => ?_)
    (Finset.sum_congr rfl fun r _ => ?_)
  · exact congrArg₂ step (congrArg (fun k => s (ix1 k)) (Fin.ext (by simp; omega)))
      (congrArg (fun k => s (ix1 k)) (Fin.ext (by simp)))
  · exact congrArg₂ step (congrArg (fun k => s (ix1 k)) (Fin.ext (by simp; omega)))
      (congrArg (fun k => s (ix1 k)) (Fin.ext (by simp)))

end Cert.Loss
-- ==== Proof.Loss.Claims.lean ====
/- The reference's run stated like the kernel's, and the two runs joined into the claim of equal results. -/
module

public import proofs.«01_k».proof.Defs
public import proofs.«01_k».proof.Proof.Loss.Kernel
public import proofs.«01_k».proof.Proof.Loss.Reference

@[expose] public section

set_option maxRecDepth 16384
set_option maxHeartbeats 2000000

noncomputable section

namespace Cert.Loss

open Idealize.ShloMosaic Idealize.ShloMosaic.TcCoe Idealize.SL.Sem

section Reference

open Cert.ReferenceIdeal Cert.ReferenceIdeal.Gen

variable (m : (ℓ : Loc nD τ sig) → Buf (Elt Ideal) ℓ) (c : Dev nD)

/-- The reference's mean squared error, from its arguments. -/
def refMse (p t : Vec Ideal S1048576 .f32) : Vec Ideal S_ .f32 :=
  Host.divf (refSq p t) (constant (F := Ideal) S_ .f32 0x49800000#32)

/-- The reference's mean penalty, from its arguments. -/
def refPenalty (p : Vec Ideal S1048576 .f32) (key : Vec Ideal S1048576 .i32) : Vec Ideal S_ .f32 :=
  Host.divf (refMono (ordered p key)) (constant (F := Ideal) S_ .f32 0x497FFFF0#32)

/-- The third result is the mean penalty. -/
theorem ref_penalty : Cert.ReferenceIdeal.Value.res_main_v13 m c
    = refPenalty (m ((c.tc : Thread nD τ).loc main_arg0)) (m ((c.tc : Thread nD τ).loc main_arg2)) := rfl

/-- The first result is the weighted total. -/
theorem ref_total : Cert.ReferenceIdeal.Value.res_main_v17 m c
    = total (refMse (m ((c.tc : Thread nD τ).loc main_arg0)) (m ((c.tc : Thread nD τ).loc main_arg1)))
        (refPenalty (m ((c.tc : Thread nD τ).loc main_arg0)) (m ((c.tc : Thread nD τ).loc main_arg2))) := rfl

/-- The reference runs, leaves its arguments as they were and every counter at zero. -/
theorem frame_reference : Cert.quiescent_ReferenceIdeal := fun m ρ _ =>
  (θ_run Cert.ReferenceIdeal.defs _ _).mono
    (fun r h => ⟨fun c => ⟨(h c).2.2.2.2.1, (h c).2.2.2.2.2.1, (h c).2.2.2.2.2.2⟩, sem_eq_zero_of_no_sems (by decide) r.2⟩)
    (Cert.ReferenceIdeal.Value.run (F := Ideal) m ρ)

end Reference

section Kernel

open Cert.KernelIdeal Cert.KernelIdeal.Gen

variable (m : (ℓ : Loc nD τ sig) → Buf (Elt Ideal) ℓ) (c : Dev nD)

/-- The launch's first sum is the reference's. -/
theorem sqSum_eq : sqSum m c = refSq (m ((c.tc : Thread nD τ).loc main_arg0)) (m ((c.tc : Thread nD τ).loc main_arg1)) := by
  unfold sqSum
  rw [entry_pred, entry_target]
  exact funext fun i => sq_agrees _ _ _ i

/-- The launch's second sum is the reference's. -/
theorem monoSum_eq : monoSum m c
    = refMono (ordered (m ((c.tc : Thread nD τ).loc main_arg0)) (m ((c.tc : Thread nD τ).loc main_arg2))) := by
  unfold monoSum
  rw [entry_ordered]
  exact funext fun i => mono_agrees _ _ i

end Kernel

/-- From equal arguments the kernel and the reference end with equal results, all four. -/
theorem equal_results : Cert.algebraic_KernelIdeal_ReferenceIdeal := by
  intro m ρ m' ρ' _ hagree
  refine ⟨_, _, _, _, run_kernel m ρ, (θ_run Cert.ReferenceIdeal.defs _ _).mono (fun r h c => ?_)
    (Cert.ReferenceIdeal.Value.run (F := Ideal) m' ρ')⟩
  obtain ⟨h0, h1, h2, h3, ha⟩ := h c
  obtain ⟨e0, e1, e2⟩ := hagree c
  refine ⟨h0.trans ?_, h1.trans ?_, h2.trans ?_, h3, ha⟩
  · rw [sqSum_eq, monoSum_eq, ← e0, ← e1, ← e2]
    exact ref_total m' c
  · rw [sqSum_eq, ← e0, ← e1]
    rfl
  · rw [monoSum_eq, ← e0, ← e2]
    exact ref_penalty m' c

end Cert.Loss
-- ==== Proof.lean ====
/- The certificate's claim: the kernel, the kernel read over the extended reals and the reference each run and leave
   their arguments alone, and from equal arguments the last two end with equal results. The frames of the two kernel
   readings are the generated ones; the rest is in Loss/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Loss.Claims
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Loss.frame_reference,
    trivial, Cert.Loss.equal_results⟩

end Cert.Proof

end
